-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_zero_or_one [hPre_mask_is_zero_or_one : Cert.Pre_mask_is_zero_or_one.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_zero_or_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_zero_or_one [hPre_mask_is_zero_or_one : Cert.Pre_mask_is_zero_or_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_zero_or_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_mask_is_zero_or_one [hKernelIdeal : Cert.KernelIdeal.Facts] [hPre_mask_is_zero_or_one : Cert.Pre_mask_is_zero_or_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_zero_or_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_mask_is_zero_or_one [hReferenceIdeal : Cert.ReferenceIdeal.Facts] [hPre_mask_is_zero_or_one : Cert.Pre_mask_is_zero_or_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_zero_or_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_mask_is_zero_or_one [hKernelIdeal : Cert.KernelIdeal.Facts] [hReferenceIdeal : Cert.ReferenceIdeal.Facts] [hPre_mask_is_zero_or_one : Cert.Pre_mask_is_zero_or_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_zero_or_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_mask_is_zero_or_one : Cert.Pre_mask_is_zero_or_one.Facts),
    quiescent_Kernel (hKernel := hKernel)
    ∧ quiescent_KernelIdeal (hKernelIdeal := hKernelIdeal)
    ∧ quiescent_KernelIdeal_pre_mask_is_zero_or_one (hKernelIdeal := hKernelIdeal) (hPre_mask_is_zero_or_one := hPre_mask_is_zero_or_one)
    ∧ quiescent_ReferenceIdeal (hReferenceIdeal := hReferenceIdeal)
    ∧ quiescent_ReferenceIdeal_pre_mask_is_zero_or_one (hReferenceIdeal := hReferenceIdeal) (hPre_mask_is_zero_or_one := hPre_mask_is_zero_or_one)
    ∧ preserves_Kernel_KernelIdeal
    ∧ algebraic_KernelIdeal_ReferenceIdeal_pre_mask_is_zero_or_one (hKernelIdeal := hKernelIdeal) (hReferenceIdeal := hReferenceIdeal) (hPre_mask_is_zero_or_one := hPre_mask_is_zero_or_one)
-- ==== Pre_mask_is_zero_or_one.lean ====
abbrev S32768x768 : Shape := ⟨2, ![32768, 768]⟩
abbrev S768x64 : Shape := ⟨2, ![768, 64]⟩
abbrev S64 : Shape := ⟨1, ![64]⟩
abbrev S1 : Shape := ⟨1, ![1]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S32768x768 .f32) (main_arg1 : FVec F S768x64 .f32) (main_arg2 : FVec F S64 .f32) (main_arg3 : FVec F S64 .f32) (main_arg4 : FVec F S1 .f32) : IVec S64 1 :=
  let main_cst : FVec F S_ .f32 := constant S_ .f32 0x00000000#32
  let main_v0 : FVec F S64 .f32 := broadcastInDim S64 ![] bcast_S_S64 main_cst
  let main_v1 : IVec S64 1 := cmpf .oeq main_arg3 main_v0
  let main_cst_0 : FVec F S_ .f32 := constant S_ .f32 0x3F800000#32
  let main_v2 : FVec F S64 .f32 := broadcastInDim S64 ![] bcast_S_S64 main_cst_0
  let main_v3 : IVec S64 1 := cmpf .oeq main_arg3 main_v2
  let main_v4 : IVec S64 1 := ori main_v1 main_v3
  main_v4
-- ==== Kernel.lean ====
abbrev S32768x768 : Shape := ⟨2, ![32768, 768]⟩
abbrev S768x64 : Shape := ⟨2, ![768, 64]⟩
abbrev S64 : Shape := ⟨1, ![64]⟩
abbrev S1 : Shape := ⟨1, ![1]⟩
abbrev S64x768 : Shape := ⟨2, ![64, 768]⟩
abbrev S1x64 : Shape := ⟨2, ![1, 64]⟩
abbrev S1x1 : Shape := ⟨2, ![1, 1]⟩
abbrev S64x32768 : Shape := ⟨2, ![64, 32768]⟩
abbrev S32768 : Shape := ⟨1, ![32768]⟩
abbrev S4096x768 : Shape := ⟨2, ![4096, 768]⟩
abbrev S64x4096 : Shape := ⟨2, ![64, 4096]⟩
abbrev S4096 : Shape := ⟨1, ![4096]⟩
abbrev S64x1 : Shape := ⟨2, ![64, 1]⟩
abbrev S4096x1 : Shape := ⟨2, ![4096, 1]⟩
abbrev S4096x64 : Shape := ⟨2, ![4096, 64]⟩
abbrev S32768x64 : Shape := ⟨2, ![32768, 64]⟩

abbrev nBuf : Space → Nat
  | .hbm => 12
  | .vmem => 10
  | .smem => 0
  | _ => 0

abbrev bufTy : (tb : Table) → Fin (tcTables nBuf tb) → BufTy
  | .hbm, ⟨0, _⟩ => ⟨S32768x768, .f32⟩
  | .hbm, ⟨1, _⟩ => ⟨S768x64, .f32⟩
  | .hbm, ⟨2, _⟩ => ⟨S64, .f32⟩
  | .hbm, ⟨3, _⟩ => ⟨S64, .f32⟩
  | .hbm, ⟨4, _⟩ => ⟨S1, .f32⟩
  | .hbm, ⟨5, _⟩ => ⟨S64x768, .f32⟩
  | .hbm, ⟨6, _⟩ => ⟨S1x64, .f32⟩
  | .hbm, ⟨7, _⟩ => ⟨S1x64, .f32⟩
  | .hbm, ⟨8, _⟩ => ⟨S1x1, .f32⟩
  | .hbm, ⟨9, _⟩ => ⟨S64x32768, .f32⟩
  | .hbm, ⟨10, _⟩ => ⟨S32768, .i32⟩
  | .hbm, ⟨11, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S64x4096, .f32⟩
  | .local _ .vmem, ⟨7, _⟩ => ⟨S64x4096, .f32⟩
  | .local _ .vmem, ⟨8, _⟩ => ⟨S4096, .i32⟩
  | .local _ .vmem, ⟨9, _⟩ => ⟨S4096, .i32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32768x768 : Shape := ⟨2, ![32768, 768]⟩
abbrev S768x64 : Shape := ⟨2, ![768, 64]⟩
abbrev S64 : Shape := ⟨1, ![64]⟩
abbrev S1 : Shape := ⟨1, ![1]⟩
abbrev S_ : Shape := ⟨0, ![]⟩
abbrev S32768 : Shape := ⟨1, ![32768]⟩
abbrev S32768x1 : Shape := ⟨2, ![32768, 1]⟩
abbrev S1x64 : Shape := ⟨2, ![1, 64]⟩
abbrev S32768x64 : Shape := ⟨2, ![32768, 64]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x64, .f32⟩
  | .hbm, ⟨2, _⟩ => ⟨S64, .f32⟩
  | .hbm, ⟨3, _⟩ => ⟨S64, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S32768x768, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x768, .f32⟩
  | .hbm, ⟨19, _⟩ => ⟨S32768x768, .f32⟩
  | .hbm, ⟨20, _⟩ => ⟨S768x64, .f32⟩
  | .hbm, ⟨21, _⟩ => ⟨S_, .f32⟩
  | .hbm, ⟨22, _⟩ => ⟨S64, .f32⟩
  | .hbm, ⟨23, _⟩ => ⟨S1x64, .f32⟩
  | .hbm, ⟨24, _⟩ => ⟨S1x64, .f32⟩
  | .hbm, ⟨25, _⟩ => ⟨S_, .f32⟩
  | .hbm, ⟨26, _⟩ => ⟨S1x64, .f32⟩
  | .hbm, ⟨27, _⟩ => ⟨S1x64, .f32⟩
  | .hbm, ⟨28, _⟩ => ⟨S768x64, .f32⟩
  | .hbm, ⟨29, _⟩ => ⟨S768x64, .f32⟩
  | .hbm, ⟨30, _⟩ => ⟨S32768x64, .f32⟩
  | .hbm, ⟨31, _⟩ => ⟨S1x1, .f32⟩
  | .hbm, ⟨32, _⟩ => ⟨S32768x64, .f32⟩
  | .hbm, ⟨33, _⟩ => ⟨S32768x64, .f32⟩
  | .hbm, ⟨34, _⟩ => ⟨S32768x64, .f32⟩
  | .hbm, ⟨35, _⟩ => ⟨S32768x64, .f32⟩
  | .hbm, ⟨36, _⟩ => ⟨S_, .f32⟩
  | .hbm, ⟨37, _⟩ => ⟨S32768x64, .f32⟩
  | .hbm, ⟨38, _⟩ => ⟨S32768x64, .f32⟩
  | .hbm, ⟨39, _⟩ => ⟨S_, .f32⟩
  | .hbm, ⟨40, _⟩ => ⟨S32768x64, .f32⟩
  | .hbm, ⟨41, _⟩ => ⟨S32768x64, .f32⟩
  | .hbm, ⟨42, _⟩ => ⟨S1x64, .f32⟩
  | .hbm, ⟨43, _⟩ => ⟨S32768x64, .f32⟩
  | .hbm, ⟨44, _⟩ => ⟨S32768x64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S32768x64, .f32⟩
  | .hbm, ⟨57, _⟩ => ⟨S32768x64, .f32⟩
  | .hbm, ⟨58, _⟩ => ⟨S_, .f32⟩
  | .hbm, ⟨59, _⟩ => ⟨S32768x64, .f32⟩
  | .hbm, ⟨60, _⟩ => ⟨S32768x64, .f32⟩
  | .hbm, ⟨61, _⟩ => ⟨S32768x64, .f32⟩
  | .hbm, ⟨62, _⟩ => ⟨S32768x64, .f32⟩
  | .hbm, ⟨63, _⟩ => ⟨S32768x64, .f32⟩
  | .hbm, ⟨64, _⟩ => ⟨S_, .f32⟩
  | .hbm, ⟨65, _⟩ => ⟨S32768x64, .f32⟩
  | .hbm, ⟨66, _⟩ => ⟨S32768x64, .i1⟩
  | .hbm, ⟨67, _⟩ => ⟨S32768x64, .i32⟩
  | .hbm, ⟨68, _⟩ => ⟨S_, .i32⟩
  | .hbm, ⟨69, _⟩ => ⟨S32768, .i32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_cst : Ref sig .tc := ⟨.hbm, 58, rfl⟩
abbrev main_call2_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.Gate.lean ====
/- The gate in plain scalars: when an expert fires for a token, the hard gate and the count of the experts that
   fire, and the facts about the sigmoid, the sign and the count that both programs are compared through. -/
module

public import Idealize.ShloMosaic.Lib.Pointwise
public import Idealize.ShloMosaic.Lib.IndicatorCount
public import Idealize.ShloMosaic.PureOps.Ideal.Laws

@[expose] public section

set_option maxRecDepth 16384

noncomputable section

open Idealize.ShloMosaic
open scoped BigOperators

namespace Cert.Gate

/-! ## The sigmoid -/

/-- The sigmoid of an extended real, as a real number: 0 at minus infinity and 1 at infinity. -/
def sigmoid : EReal → ℝ
  | ⊥ => 0
  | ⊤ => 1
  | (r : ℝ) => (1 + Real.exp (-r))⁻¹

theorem sigmoid_bot : sigmoid ⊥ = 0 := rfl
theorem sigmoid_top : sigmoid ⊤ = 1 := rfl
theorem sigmoid_coe (r : ℝ) : sigmoid (r : EReal) = (1 + Real.exp (-r))⁻¹ := rfl

/-- The quotient 1 / (1 + exp (-a)) that the reference writes is the sigmoid of a. -/
theorem quotient_eq_sigmoid (a : EReal) : Ideal.div 1 (1 + Ideal.exp (-a)) = (sigmoid a : EReal) := by
  change Ideal.logistic a = _
  induction a with
  | bot => rw [Ideal.logistic_bot, sigmoid_bot, EReal.coe_zero]
  | top => rw [Ideal.logistic_top, sigmoid_top, EReal.coe_one]
  | coe r => rw [Ideal.logistic_coe, sigmoid_coe]

/-- On the real numbers the sigmoid is positive. -/
theorem sigmoid_coe_pos (r : ℝ) : 0 < sigmoid (r : EReal) := by
  rw [sigmoid_coe]; positivity

/-- On the real numbers the sigmoid is below 1. -/
theorem sigmoid_coe_lt_one (r : ℝ) : sigmoid (r : EReal) < 1 := by
  rw [sigmoid_coe]
  exact inv_lt_one_of_one_lt₀ (lt_add_of_pos_right 1 (Real.exp_pos _))

/-- The sigmoid is nowhere negative. -/
theorem sigmoid_nonneg (a : EReal) : 0 ≤ sigmoid a := by
  induction a with
  | bot => exact le_of_eq sigmoid_bot.symm
  | top => rw [sigmoid_top]; exact zero_le_one
  | coe r => exact (sigmoid_coe_pos r).le

/-- The sigmoid is strictly increasing on the extended reals. -/
theorem sigmoid_strictMono : StrictMono sigmoid := by
  intro a b h
  induction a with
  | top => exact absurd h not_top_lt
  | bot =>
    induction b with
    | bot => exact absurd h (lt_irrefl _)
    | top => rw [sigmoid_bot, sigmoid_top]; exact zero_lt_one
    | coe s => rw [sigmoid_bot]; exact sigmoid_coe_pos s
  | coe r =>
    induction b with
    | bot => exact absurd h not_lt_bot
    | top => rw [sigmoid_top]; exact sigmoid_coe_lt_one r
    | coe s =>
      have hrs : r < s := EReal.coe_lt_coe_iff.1 h
      rw [sigmoid_coe, sigmoid_coe]
      refine inv_strictAnti₀ (by positivity) ?_
      have := Real.exp_lt_exp.2 (neg_lt_neg hrs)
      linarith

/-! ## The straight-through sign -/

/-- For a real r, adding to r the difference of its sign and itself gives its sign. -/
theorem add_sign_sub (r : ℝ) : (r : EReal) + (Ideal.sign r - r) = Ideal.sign r := by
  rw [Ideal.sign_coe, ← EReal.coe_sub, ← EReal.coe_add]
  congr 1; ring

/-- The sign of a real that has been clipped below at 0: 1 where the real is positive, else 0. -/
theorem sign_clipped (d : ℝ) : Ideal.sign ((max d 0 : ℝ) : EReal) = if 0 < d then 1 else 0 := by
  rw [Ideal.sign_coe]
  by_cases h : 0 < d
  · rw [if_pos h, max_eq_left h.le, sign_pos h]; rfl
  · rw [if_neg h, max_eq_right (not_lt.1 h), sign_zero]; rfl

/-- The greater of two reals, read as an extended real, is the greater of the two extended reals. -/
theorem coe_max (a b : ℝ) : ((max a b : ℝ) : EReal) = max (a : EReal) (b : EReal) :=
  EReal.coe_strictMono.monotone.map_max

/-- What the reference makes of one entry: with a the scaled similarity, b the scaled threshold and k the mask's
    entry, which is 0 or 1, the clipped difference of the sigmoids plus (its sign minus itself) is 1 where b < a and
    0 < k, else 0. -/
theorem straight_through (a b k : EReal) (hk : k = 0 ∨ k = 1) :
    max (Ideal.div 1 (1 + Ideal.exp (-a)) * k - Ideal.div 1 (1 + Ideal.exp (-b))) 0
      + (Ideal.sign (max (Ideal.div 1 (1 + Ideal.exp (-a)) * k - Ideal.div 1 (1 + Ideal.exp (-b))) 0)
          - max (Ideal.div 1 (1 + Ideal.exp (-a)) * k - Ideal.div 1 (1 + Ideal.exp (-b))) 0)
      = if b < a ∧ 0 < k then 1 else 0 := by
  rw [quotient_eq_sigmoid, quotient_eq_sigmoid]
  rcases hk with rfl | rfl
  · have e : max ((sigmoid a : EReal) * 0 - (sigmoid b : EReal)) 0 = ((max (-sigmoid b) 0 : ℝ) : EReal) := by
      rw [mul_zero, zero_sub, coe_max, EReal.coe_neg, EReal.coe_zero]
    rw [e, add_sign_sub, sign_clipped, if_neg (by have := sigmoid_nonneg b; linarith),
      if_neg (fun h => lt_irrefl _ h.2)]
  · have e : max ((sigmoid a : EReal) * 1 - (sigmoid b : EReal)) 0 = ((max (sigmoid a - sigmoid b) 0 : ℝ) : EReal) := by
      rw [mul_one, ← EReal.coe_sub, coe_max, EReal.coe_zero]
    rw [e, add_sign_sub, sign_clipped]
    have hiff : (0 < sigmoid a - sigmoid b) ↔ (b < a ∧ (0 : EReal) < 1) := by
      rw [sub_pos, sigmoid_strictMono.lt_iff_lt]
      exact ⟨fun h => ⟨h, zero_lt_one⟩, fun h => h.1⟩
    simp only [hiff]

/-! ## Bits and counts -/

/-- The conjunction of two comparisons, widened to 32 bits and read as a float, is 1 where both hold, else 0. -/
theorem float_of_both (p q : Prop) [Decidable p] [Decidable q] :
    (FloatOps.sitofp .f32 (BitVec.setWidth 32 (IntOp.andi (BitVec.ofBool (decide p)) (BitVec.ofBool (decide q)))) : Ideal .f32)
      = if p ∧ q then 1 else 0 := by
  change (((BitVec.setWidth 32 (BitVec.ofBool (decide p) &&& BitVec.ofBool (decide q))).toInt : ℝ) : EReal) = _
  by_cases hp : p <;> by_cases hq : q <;> simp [hp, hq]

/-- The float sum of 0s and 1s over the 64 experts, rounded to a 32-bit integer, is the number of the 1s. -/
theorem fptosi_sum (p : Fin 64 → Prop) [DecidablePred p] :
    (FloatOps.fptosi 32 (∑ e : Fin 64, (if p e then 1 else 0 : Ideal .f32)) : BitVec 32)
      = BitVec.ofNat 32 (Finset.univ.filter p).card := by
  have hc : (Finset.univ.filter p).card ≤ 64 := (Finset.card_le_univ _).trans (by simp)
  have hs : (∑ e : Fin 64, (if p e then 1 else 0 : EReal)) = (((Finset.univ.filter p).card : ℝ) : EReal) := by
    rw [Finset.sum_boole]; rfl
  change Ideal.fptosi 32 (∑ e : Fin 64, (if p e then 1 else 0 : EReal)) = _
  rw [hs]
  generalize (Finset.univ.filter p).card = n at hc ⊢
  rw [Ideal.fptosi, Ideal.toIntClamped_coe, if_pos (Nat.cast_nonneg n), Int.floor_natCast]
  rw [min_eq_right (by norm_num; omega), max_eq_right (by norm_num), BitVec.ofInt_natCast]

/-- The 32-bit sum over the 64 experts of the bits "this entry is positive" of a row of 0s and 1s is the number of the
    1s. -/
theorem fold_positive (p : Fin 64 → Prop) [DecidablePred p] :
    Finset.fold IntOp.addi (0#32)
        (fun e : Fin 64 => BitVec.setWidth 32 (BitVec.ofBool (decide ((0 : EReal) < if p e then 1 else 0)))) Finset.univ
      = BitVec.ofNat 32 (Finset.univ.filter p).card := by
  rw [IndicatorCount.fold_addi_setWidth_eq_card
    (fun e : Fin 64 => BitVec.ofBool (decide ((0 : EReal) < if p e then 1 else 0)))]
  congr 2
  ext e
  by_cases h : p e <;> simp [h]

/-! ## The gate -/

/-- The factor by which similarities and thresholds are scaled: the exponential of the temperature, capped at the
    logarithm of 100. -/
def scale (t : EReal) : EReal := Ideal.exp (min t (Ideal.log (Ideal.ofBits .f32 0x42C80000#32)))

/-- Entry q of a vector of 768 entries divided by its length, where the length is at least the float nearest to
    1e-12. -/
def unit (v : Fin 768 → EReal) (q : Fin 768) : EReal :=
  Ideal.div (v q) (max (Ideal.sqrt (∑ r, v r * v r)) (Ideal.ofBits .f32 0x2B8CBCCC#32))

/-- The expert of column w, threshold g and mask entry k fires for the token of row v: the scaled inner product of the
    two unit vectors is above the scaled threshold and the mask's entry is positive. -/
def Fires (v w : Fin 768 → EReal) (g k t : EReal) : Prop :=
  g * scale t < (∑ q, unit v q * unit w q) * scale t ∧ 0 < k

/-- Whether an expert fires is a conjunction of two comparisons. -/
instance (v w : Fin 768 → EReal) (g k t : EReal) : Decidable (Fires v w g k t) :=
  inferInstanceAs (Decidable (_ ∧ _))

/-- Expert e fires for token i, of the five arguments. -/
def FiresAt (x : FVec Ideal ⟨2, ![32768, 768]⟩ .f32) (sim : FVec Ideal ⟨2, ![768, 64]⟩ .f32)
    (g k : FVec Ideal ⟨1, ![64]⟩ .f32) (t : FVec Ideal ⟨1, ![1]⟩ .f32) (i : Fin 32768) (e : Fin 64) : Prop :=
  Fires (fun q => x (ix2 i q)) (fun q => sim (ix2 q e)) (g (ix1 e)) (k (ix1 e)) (t (ix1 0))

/-- Whether an expert fires for a token is a conjunction of two comparisons. -/
instance (x : FVec Ideal ⟨2, ![32768, 768]⟩ .f32) (sim : FVec Ideal ⟨2, ![768, 64]⟩ .f32)
    (g k : FVec Ideal ⟨1, ![64]⟩ .f32) (t : FVec Ideal ⟨1, ![1]⟩ .f32) (i : Fin 32768) (e : Fin 64) :
    Decidable (FiresAt x sim g k t i e) :=
  inferInstanceAs (Decidable (Fires _ _ _ _ _))

/-- Entry (i, e) of the hard gate: 1 where expert e fires for token i, else 0. -/
def gateAt (x : FVec Ideal ⟨2, ![32768, 768]⟩ .f32) (sim : FVec Ideal ⟨2, ![768, 64]⟩ .f32)
    (g k : FVec Ideal ⟨1, ![64]⟩ .f32) (t : FVec Ideal ⟨1, ![1]⟩ .f32)
    (i : Fin 32768) (e : Fin 64) : EReal :=
  if FiresAt x sim g k t i e then 1 else 0

/-- The number of experts that fire for token i, as a 32-bit integer. -/
def countAt (x : FVec Ideal ⟨2, ![32768, 768]⟩ .f32) (sim : FVec Ideal ⟨2, ![768, 64]⟩ .f32)
    (g k : FVec Ideal ⟨1, ![64]⟩ .f32) (t : FVec Ideal ⟨1, ![1]⟩ .f32)
    (i : Fin 32768) : BitVec 32 :=
  BitVec.ofNat 32 (Finset.univ.filter fun e : Fin 64 => FiresAt x sim g k t i e).card

/-- The hard gate of every token and expert. -/
def gate (x : FVec Ideal ⟨2, ![32768, 768]⟩ .f32) (sim : FVec Ideal ⟨2, ![768, 64]⟩ .f32)
    (g k : FVec Ideal ⟨1, ![64]⟩ .f32) (t : FVec Ideal ⟨1, ![1]⟩ .f32) :
    FVec Ideal ⟨2, ![32768, 64]⟩ .f32 :=
  fun j => gateAt x sim g k t (j 0) (j 1)

/-- The number of experts that fire for each token. -/
def count (x : FVec Ideal ⟨2, ![32768, 768]⟩ .f32) (sim : FVec Ideal ⟨2, ![768, 64]⟩ .f32)
    (g k : FVec Ideal ⟨1, ![64]⟩ .f32) (t : FVec Ideal ⟨1, ![1]⟩ .f32) :
    IVec ⟨1, ![32768]⟩ 32 :=
  fun j => countAt x sim g k t (j 0)

end Cert.Gate

end
-- ==== Proof.KernelValue.lean ====
/- The kernel's two results: the transposed gate and the count that the eight points write, and the transpose that
   follows, are the hard gate and the count of Gate.lean. -/
module

public import proofs.«01_k».proof.Proof.Gate
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.Gate

/-! ## One block -/

/-- What the body computes for row r of its block of tokens and expert e: 1 if the expert fires, else 0. -/
theorem body_at (v1 : FVec Ideal S1x1 .f32) (v5 : FVec Ideal S64x768 .f32) (v16 : FVec Ideal S4096x768 .f32)
    (v28 v34 : FVec Ideal S1x64 .f32) (r : Fin 4096) (e : Fin 64) :
    k0_pay3 (F := Ideal) v1 v5 v16 v28 v34 (ix2 r e)
      = if Fires (fun q => v16 (ix2 r q)) (fun q => v5 (ix2 e q)) (v28 (ix2 0 e)) (v34 (ix2 0 e)) (v1 (ix2 0 0))
        then 1 else 0 := by
  pointwise [k0_pay3]
  refine (float_of_both _ _).trans ?_
  unfold Fires unit scale
  rfl

/-- What the body stores for expert e and row r: entry (r, e) of what it computed. -/
theorem stored_gate_at (v41 : FVec Ideal S4096x64 .f32) (e : Fin 64) (r : Fin 4096) :
    k0_pay1 (F := Ideal) v41 (ix2 e r) = v41 (ix2 r e) := by
  pointwise [k0_pay1]

/-- What the body stores as row r's count: the row's sum, rounded to an integer. -/
theorem stored_count_at (v41 : FVec Ideal S4096x64 .f32) (r : Fin 4096) :
    k0_pay2 (F := Ideal) v41 (ix1 r) = FloatOps.fptosi 32 (∑ e : Fin 64, v41 (ix2 r e)) := by
  pointwise [k0_pay2, k0_pay1]

/-! ## The windows at a point -/

/-- Which block of its array each window holds at point t. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val] ∧ win0_6.index t = ![t.val] :=
  (by decide +kernel : ∀ t : Fin grid0.N, _)

/-- Row r of point t's block of tokens is a token. -/
theorem token_lt (t : Fin cfg0.N) (r : Fin 4096) : t.val * 4096 + r.val < 32768 := by
  have hN : cfg0.N = 8 := N_0
  have := t.isLt
  omega

/-- The token at row r of point t's block. -/
def token (t : Fin cfg0.N) (r : Fin 4096) : Fin 32768 := ⟨t.val * 4096 + r.val, token_lt t r⟩

variable (m : (ℓ : Loc nD τ sig) → Buf (Elt Ideal) ℓ) (c : Dev nD)

/-- Device c's tokens. -/
abbrev argX : FVec Ideal S32768x768 .f32 := m ((c : Thread nD τ).loc main_arg0)
/-- Device c's similarity matrix. -/
abbrev argSim : FVec Ideal S768x64 .f32 := m ((c : Thread nD τ).loc main_arg1)
/-- Device c's thresholds. -/
abbrev argG : FVec Ideal S64 .f32 := m ((c : Thread nD τ).loc main_arg2)
/-- Device c's mask. -/
abbrev argK : FVec Ideal S64 .f32 := m ((c : Thread nD τ).loc main_arg3)
/-- Device c's temperature. -/
abbrev argT : FVec Ideal S1 .f32 := m ((c : Thread nD τ).loc main_arg4)

/-- Point t's block of tokens, at row r. -/
theorem tokens_at (t : Fin cfg0.N) (r : Fin 4096) (q : Fin 768) :
    (iblk m c 0 t : FVec Ideal S4096x768 .f32) (ix2 r q) = argX m c (ix2 (token t r) q) := by
  blk_ext [iblk, V, idx t, token]

/-- Every point's similarity block is the transposed similarity matrix. -/
theorem sim_at (t : Fin cfg0.N) (e : Fin 64) (q : Fin 768) :
    (iblk m c 1 t : FVec Ideal S64x768 .f32) (ix2 e q) = argSim m c (ix2 q e) := by
  refine Eq.trans (b := V m c main_v0 (ix2 e q)) ?_ ?_
  · blk_ext [iblk, idx t]
  · simp only [V, V0, hostOps0, List.flatten_cons, List.flatten_nil, List.append_nil]
    after_results
    pointwise

/-- Every point's block of thresholds is the thresholds. -/
theorem gates_at (t : Fin cfg0.N) (e : Fin 64) :
    (iblk m c 2 t : FVec Ideal S1x64 .f32) (ix2 0 e) = argG m c (ix1 e) := by
  refine Eq.trans (b := V m c main_v1 (ix2 0 e)) ?_ ?_
  · blk_ext [iblk, idx t]
  · simp only [V, V0, hostOps0, List.flatten_cons, List.flatten_nil, List.append_nil]
    after_results
    pointwise

/-- Every point's mask block is the mask. -/
theorem mask_at (t : Fin cfg0.N) (e : Fin 64) :
    (iblk m c 3 t : FVec Ideal S1x64 .f32) (ix2 0 e) = argK m c (ix1 e) := by
  refine Eq.trans (b := V m c main_v2 (ix2 0 e)) ?_ ?_
  · blk_ext [iblk, idx t]
  · simp only [V, V0, hostOps0, List.flatten_cons, List.flatten_nil, List.append_nil]
    after_results
    pointwise

/-- Every point's temperature block is the temperature. -/
theorem temp_at (t : Fin cfg0.N) :
    (iblk m c 4 t : FVec Ideal S1x1 .f32) (ix2 0 0) = argT m c (ix1 0) := by
  refine Eq.trans (b := V m c main_v3 (ix2 0 0)) ?_ ?_
  · blk_ext [iblk, idx t]
  · simp only [V, V0, hostOps0, List.flatten_cons, List.flatten_nil, List.append_nil]
    after_results
    pointwise

/-- What the body computes at point t, for row r and expert e, over the arguments. -/
theorem point_at (t : Fin cfg0.N) (r : Fin 4096) (e : Fin 64) :
    k0_pay3 (F := Ideal) (iblk m c 4 t) (iblk m c 1 t) (iblk m c 0 t) (iblk m c 2 t) (iblk m c 3 t) (ix2 r e)
      = gateAt (argX m c) (argSim m c) (argG m c) (argK m c) (argT m c) (token t r) e := by
  refine (body_at _ _ _ _ _ r e).trans ?_
  unfold gateAt FiresAt
  rw [funext (tokens_at m c t r), funext (sim_at m c t e), gates_at m c t e, mask_at m c t e, temp_at m c t]
  rfl

/-- Which token and expert an entry of point t's block of the gate array stands for. -/
theorem emb_gate (t : Fin cfg0.N) (e : Fin 64) (r : Fin 4096) :
    ((cfg0.win 5).blk t).view.emb (ix2 e r) = (ix2 e (token t r) : S64x32768.Idx) := by
  blk_ext [idx t, token]

/-- Which token an entry of point t's block of the counts stands for. -/
theorem emb_count (t : Fin cfg0.N) (r : Fin 4096) :
    ((cfg0.win 6).blk t).view.emb (ix1 r) = (ix1 (token t r) : S32768.Idx) := by
  blk_ext [idx t, token]

/-- Point t's block of the gate array. -/
theorem gate_block (t : Fin cfg0.N) (y : S64x4096.Idx) :
    k0_pay1 (F := Ideal) (k0_pay4 (iblk m c 0 t) (iblk m c 1 t) (iblk m c 2 t) (iblk m c 3 t) (iblk m c 4 t)) y
      = (fun j : S64x32768.Idx => gate (argX m c) (argSim m c) (argG m c) (argK m c) (argT m c) (ix2 (j 1) (j 0)))
          (((cfg0.win 5).blk t).view.emb y) := by
  idx_vars y
  rw [emb_gate]
  refine (stored_gate_at _ _ _).trans ?_
  unfold k0_pay4
  frame_out
  exact point_at m c t _ _

/-- Point t's block of the counts. -/
theorem count_block (t : Fin cfg0.N) (y : S4096.Idx) :
    k0_pay2 (F := Ideal) (k0_pay4 (iblk m c 0 t) (iblk m c 1 t) (iblk m c 2 t) (iblk m c 3 t) (iblk m c 4 t)) y
      = count (argX m c) (argSim m c) (argG m c) (argK m c) (argT m c) (((cfg0.win 6).blk t).view.emb y) := by
  idx_vars y
  rw [emb_count]
  refine (stored_count_at _ _).trans ?_
  unfold k0_pay4
  frame_out
  refine (congrArg (FloatOps.fptosi (F := Ideal) (φ := .f32) 32)
    (Finset.sum_congr rfl fun e _ => point_at m c t _ e)).trans ?_
  exact fptosi_sum _

/-! ## The result arrays -/

/-- The gate array that the points write, expert by token. -/
theorem final_gate : (dats m 0 c).arrAt 5 (cfgs 0).N
    = (fun j : S64x32768.Idx => gate (argX m c) (argSim m c) (argG m c) (argK m c) (argT m c) (ix2 (j 1) (j 0))) := by
  refine (dats m 0 c).arrAt_eq_of_covers 5 _ (by decide +kernel) fun t _ y => ?_
  blk_simp
  rw [after0_5]; frame_out
  exact gate_block m c t y

/-- The counts that the points write. -/
theorem final_count : (dats m 0 c).arrAt 6 (cfgs 0).N
    = count (argX m c) (argSim m c) (argG m c) (argK m c) (argT m c) := by
  refine (dats m 0 c).arrAt_eq_of_covers 6 _ (by decide +kernel) fun t _ y => ?_
  blk_simp
  rw [after0_6]; frame_out
  exact count_block m c t y

/-- The first result: the gate array transposed. -/
theorem result_gate : Pipeline.afterTail₀ cfgs (dats m) 0 (V0 m) [hostOps1] c main_v5
    = gate (argX m c) (argSim m c) (argG m c) (argK m c) (argT m c) := by
  unfold Pipeline.afterTail₀
  simp only [hostOps1, List.flatten_cons, List.flatten_nil, List.append_nil]
  after_results
  rw [Pipeline.withArrays_arr spec0 launch0.win.arr_inj c (V0 m c) _ 5]
  rw [final_gate]
  funext j
  idx_vars j
  pointwise

/-- The run: on every device the two results end at the gate and the count of its arguments, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v5) = gate (argX m c) (argSim m c) (argG m c) (argK m c) (argT m c)
      ∧ r.2.mem ((c : Thread nD τ).loc main_v4_1) = count (argX m c) (argSim m c) (argG m c) (argK m c) (argT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine θ_run_mono (θ_run_and (run_main m ρ) (frame m ρ)) fun r h c => ⟨?_, ?_, h.2.1 c⟩
  · exact ((h.1 c).2 main_v5 (Pipeline.mem_restRefs_of main_v5 (by decide) (by decide))).trans (result_gate m c)
  · exact ((h.1 c).1 6).trans (final_count m c)

end Cert.KernelIdeal.RefValue

end
-- ==== Proof.RefValue.lean ====
/- The reference's two results, under the precondition on the mask: the hard gate and the count of Gate.lean. -/
module

public import proofs.«01_k».proof.Proof.Gate
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Gate

variable (x : FVec Ideal S32768x768 .f32) (sim : FVec Ideal S768x64 .f32) (g k : FVec Ideal S64 .f32)
  (t : FVec Ideal S1 .f32)

/-- The reference's first result at token i and expert e, where the mask's entry is 0 or 1: 1 if the expert fires for
    the token, else 0. -/
theorem logits_at (i : Fin 32768) (e : Fin 64) (hk : k (ix1 e) = 0 ∨ k (ix1 e) = 1) :
    val_main_v41 (F := Ideal) x sim g k t (ix2 i e) = gateAt x sim g k t i e := by
  pointwise [val_main_v41, val_main_v40, val_main_v39, val_main_v38, val_main_call2_v0, val_main_call2_cst,
    val_main_v37, val_main_v36, val_main_v35, val_main_v34, val_main_v33, val_main_cst_5, val_main_v32, val_main_v31,
    val_main_cst_4, val_main_v30, val_main_v29, val_main_v28, val_main_v27, val_main_v26, val_main_v25, val_main_v24,
    val_main_v23, val_main_v22, val_main_cst_3, val_main_v21, val_main_v20, val_main_cst_2, val_main_v19, val_main_v18,
    val_main_v17, val_main_v16, val_main_v15, val_main_v14, val_main_v13, val_main_v12, val_main_v11, val_main_v10,
    val_main_cst_1, val_main_v9, val_main_call1_v2, val_main_call1_v1, val_main_call1_cst, val_main_call1_v0,
    val_main_v8, val_main_v7, val_main_v6, val_main_v5, val_main_cst_0, val_main_v4, val_main_call0_v2,
    val_main_call0_v1, val_main_call0_cst, val_main_call0_v0, val_main_v3, val_main_v2, val_main_v1, val_main_v0,
    val_main_cst]
  refine (straight_through _ _ _ hk).trans ?_
  unfold gateAt FiresAt Fires unit scale
  rfl

/-- The reference's first result is the hard gate, where every entry of the mask is 0 or 1. -/
theorem logits_eq (hk : ∀ e : Fin 64, k (ix1 e) = 0 ∨ k (ix1 e) = 1) :
    val_main_v41 (F := Ideal) x sim g k t = gate x sim g k t := by
  funext j
  idx_vars j
  exact logits_at x sim g k t _ _ (hk _)

/-- The reference's second result is the count of the experts that fire, where every entry of the mask is 0 or 1. -/
theorem topk_eq (hk : ∀ e : Fin 64, k (ix1 e) = 0 ∨ k (ix1 e) = 1) :
    val_main_v45 (F := Ideal) x sim g k t = count x sim g k t := by
  funext j
  idx_vars j
  pointwise [val_main_v45, val_main_v44, val_main_c, val_main_v43, val_main_v42, val_main_cst_6]
  simp only [logits_at x sim g k t _ _ (hk _), gateAt]
  exact fold_positive _

end Cert.ReferenceIdeal.RefValue

end
-- ==== Proof.lean ====
/- The proof of the five claims: the kernel and its ideal reading run and leave their arguments unchanged, the plain
   gate does, and at the ideal instance, where every entry of the mask is 0 or 1, the kernel's two results are the
   plain gate's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gate
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

open Idealize.ShloMosaic Idealize.ShloMosaic.TcCoe Idealize.SL.Sem

/-! ## The precondition -/

namespace Cert.Pre_mask_is_zero_or_one

/-- The one shape relation that the precondition's operations take. -/
theorem facts : Facts := ⟨by decide⟩

/-- Where the precondition's comparisons all hold, every entry of the mask is 0 or 1. -/
theorem zero_or_one [Facts] (x : FVec Ideal S32768x768 .f32) (sim : FVec Ideal S768x64 .f32) (g k : FVec Ideal S64 .f32)
    (t : FVec Ideal S1 .f32) (h : fn x sim g k t = fun _ => 1#1) (e : Fin 64) : k (ix1 e) = 0 ∨ k (ix1 e) = 1 := by
  have he := congrFun h (ix1 e)
  pointwise [fn] at he
  by_cases h0 : k (ix1 e) = 0
  · exact Or.inl h0
  · by_cases h1 : k (ix1 e) = 1
    · exact Or.inr h1
    · simp [h0, h1, IntOp.ori] at he

end Cert.Pre_mask_is_zero_or_one

/-! ## The claims -/

namespace Cert.Proof

open Cert.Gate

/-- The plain gate runs, leaves its arguments unchanged and declares no semaphore. -/
theorem reference_frame : Cert.quiescent_ReferenceIdeal := fun m ρ _ =>
  θ_run_mono (Cert.ReferenceIdeal.Value.run (F := Ideal) m ρ) fun r h =>
    ⟨fun c => (h c).2.2, sem_eq_zero_of_no_sems (by decide) r.2⟩

/-- The kernel's two results are the plain gate's, where every entry of the mask is 0 or 1. -/
theorem algebraic [Cert.Pre_mask_is_zero_or_one.Facts] :
    Cert.algebraic_KernelIdeal_ReferenceIdeal_pre_mask_is_zero_or_one := by
  intro m ρ m' ρ' hpre hagree
  refine ⟨_, _, Cert.KernelIdeal.RefValue.run m ρ, ?_⟩
  refine θ_run_mono (Cert.ReferenceIdeal.Value.run (F := Ideal) m' ρ') fun r h c => ?_
  obtain ⟨e0, e1, e2, e3, e4⟩ := hagree c
  have hk := Cert.Pre_mask_is_zero_or_one.zero_or_one _ _ _ _ _ (hpre c)
  refine ⟨(h c).1.trans ?_, (h c).2.1.trans ?_, (h c).2.2⟩
  · rw [Cert.ReferenceIdeal.Read.val_main_v41_eq, e0, e1, e2, e3, e4]
    exact Cert.ReferenceIdeal.RefValue.logits_eq _ _ _ _ _ hk
  · rw [Cert.ReferenceIdeal.Read.val_main_v45_eq, e0, e1, e2, e3, e4]
    exact Cert.ReferenceIdeal.RefValue.topk_eq _ _ _ _ _ hk

/-- Everything that is claimed. -/
theorem claim : Cert.Claim :=
  ⟨Cert.Kernel.Gen.facts, Cert.KernelIdeal.Gen.facts, Cert.ReferenceIdeal.Gen.facts, Cert.Pre_mask_is_zero_or_one.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    letI := Cert.Pre_mask_is_zero_or_one.facts; algebraic⟩

end Cert.Proof

end
